-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_shared_increasing_positions [hPre_shared_increasing_positions : Cert.Pre_shared_increasing_positions.Facts] (m : (ℓ : Loc Cert.KernelIdeal.nD Cert.KernelIdeal.τ Cert.KernelIdeal.sig) → Buf (Elt Ideal) ℓ) : Prop :=
  ∀ c : Dev Cert.KernelIdeal.nD,
    (Cert.Pre_shared_increasing_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_shared_increasing_positions [hPre_shared_increasing_positions : Cert.Pre_shared_increasing_positions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_shared_increasing_positions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_shared_increasing_positions [hKernelIdeal : Cert.KernelIdeal.Facts] [hPre_shared_increasing_positions : Cert.Pre_shared_increasing_positions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_shared_increasing_positions m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_shared_increasing_positions [hReferenceIdeal : Cert.ReferenceIdeal.Facts] [hPre_shared_increasing_positions : Cert.Pre_shared_increasing_positions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_shared_increasing_positions m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_shared_increasing_positions [hKernelIdeal : Cert.KernelIdeal.Facts] [hReferenceIdeal : Cert.ReferenceIdeal.Facts] [hPre_shared_increasing_positions : Cert.Pre_shared_increasing_positions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_shared_increasing_positions m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_shared_increasing_positions : Cert.Pre_shared_increasing_positions.Facts),
    quiescent_Kernel (hKernel := hKernel)
    ∧ quiescent_KernelIdeal (hKernelIdeal := hKernelIdeal)
    ∧ quiescent_KernelIdeal_pre_shared_increasing_positions (hKernelIdeal := hKernelIdeal) (hPre_shared_increasing_positions := hPre_shared_increasing_positions)
    ∧ quiescent_ReferenceIdeal (hReferenceIdeal := hReferenceIdeal)
    ∧ quiescent_ReferenceIdeal_pre_shared_increasing_positions (hReferenceIdeal := hReferenceIdeal) (hPre_shared_increasing_positions := hPre_shared_increasing_positions)
    ∧ preserves_Kernel_KernelIdeal
    ∧ algebraic_KernelIdeal_ReferenceIdeal_pre_shared_increasing_positions (hKernelIdeal := hKernelIdeal) (hReferenceIdeal := hReferenceIdeal) (hPre_shared_increasing_positions := hPre_shared_increasing_positions)
-- ==== Pre_shared_increasing_positions.lean ====
abbrev S1x96x224x224 : Shape := ⟨4, ![1, 96, 224, 224]⟩
abbrev S96x96x1x1x3 : Shape := ⟨5, ![96, 96, 1, 1, 3]⟩
abbrev S1x1x1x1x3 : Shape := ⟨5, ![1, 1, 1, 1, 3]⟩
abbrev S3 : Shape := ⟨1, ![3]⟩
abbrev S_ : Shape := ⟨0, ![]⟩
abbrev S1 : Shape := ⟨1, ![1]⟩

class Facts : Prop where
  slices_S96x96x1x1x3_S1x1x1x1x3_0_0_0_0_0 : S96x96x1x1x3.Slices ![0, 0, 0, 0, 0] S1x1x1x1x3
  shapeCasts_S1x1x1x1x3_S3 : S1x1x1x1x3.ShapeCasts S3
  bcast_S3_S1x1x1x1x3_4 : S3.BroadcastsInDim S1x1x1x1x3 (![4] : Fin 1 → Fin S1x1x1x1x3.rank)
  bcast_S1x1x1x1x3_S96x96x1x1x3_0_1_2_3_4 : S1x1x1x1x3.BroadcastsInDim S96x96x1x1x3 (![0, 1, 2, 3, 4] : Fin 5 → Fin S96x96x1x1x3.rank)
  reducesTo_S96x96x1x1x3_S_d0_1_2_3_4 : S96x96x1x1x3.ReducesTo [0, 1, 2, 3, 4] S_
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  bcast_S_S96x96x1x1x3 : S_.BroadcastsInDim S96x96x1x1x3 (![] : Fin 0 → Fin S96x96x1x1x3.rank)

variable [Facts]

def fn_part1 {F : FTy → Type} [FloatOps F] (main_arg2 : FVec F S96x96x1x1x3 .f32) (main_v5 : IVec S_ 1) (main_v20 : IVec S_ 1) (main_v21 : FVec F S1 .f32) : IVec S_ 1 :=
  let main_v22 : FVec F S_ .f32 := shapeCast S_ main_v21 shapeCasts_S1_S_
  let main_cst_0 : FVec F S_ .f32 := constant S_ .f32 0x3F800000#32
  let main_v23 : IVec S_ 1 := cmpf .ole main_v22 main_cst_0
  let main_v24 : IVec S_ 1 := andi main_v20 main_v23
  let main_v25 : IVec S_ 1 := andi main_v5 main_v24
  let main_v26 : FVec F S96x96x1x1x3 .f32 := Host.absf main_arg2
  let main_cst_1 : FVec F S_ .f32 := constant S_ .f32 0x7F800000#32
  let main_v27 : FVec F S96x96x1x1x3 .f32 := broadcastInDim S96x96x1x1x3 ![] bcast_S_S96x96x1x1x3 main_cst_1
  let main_v28 : IVec S96x96x1x1x3 1 := cmpf .olt main_v26 main_v27
  let main_c_2 : IVec S_ 1 := constantI S_ 1 1#1
  let main_v29 : IVec S_ 1 := (fun x v => Host.reduce IntOp.andi x v reducesTo_S96x96x1x1x3_S_d0_1_2_3_4 h_S_) main_v28 main_c_2
  let main_v30 : IVec S_ 1 := andi main_v25 main_v29
  main_v30

def fn {F : FTy → Type} [FloatOps F] (main_arg0 : FVec F S1x96x224x224 .f32) (main_arg1 : FVec F S96x96x1x1x3 .f32) (main_arg2 : FVec F S96x96x1x1x3 .f32) : IVec S_ 1 :=
  let main_v0 : FVec F S1x1x1x1x3 .f32 := (extractStridedSlice S1x1x1x1x3 ![0, 0, 0, 0, 0] · slices_S96x96x1x1x3_S1x1x1x1x3_0_0_0_0_0) main_arg1
  let main_v1 : FVec F S3 .f32 := shapeCast S3 main_v0 shapeCasts_S1x1x1x1x3_S3
  let main_v2 : FVec F S1x1x1x1x3 .f32 := broadcastInDim S1x1x1x1x3 ![4] bcast_S3_S1x1x1x1x3_4 main_v1
  let main_v3 : FVec F S96x96x1x1x3 .f32 := broadcastInDim S96x96x1x1x3 ![0, 1, 2, 3, 4] bcast_S1x1x1x1x3_S96x96x1x1x3_0_1_2_3_4 main_v2
  let main_v4 : IVec S96x96x1x1x3 1 := cmpf .oeq main_arg1 main_v3
  let main_c : IVec S_ 1 := constantI S_ 1 1#1
  let main_v5 : IVec S_ 1 := (fun x v => Host.reduce IntOp.andi x v reducesTo_S96x96x1x1x3_S_d0_1_2_3_4 h_S_) main_v4 main_c
  let main_v6 : FVec F S1 .f32 := (extractStridedSlice S1 ![0] · slices_S3_S1_0) main_v1
  let main_v7 : FVec F S_ .f32 := shapeCast S_ main_v6 shapeCasts_S1_S_
  let main_cst : FVec F S_ .f32 := constant S_ .f32 0xBF800000#32
  let main_v8 : IVec S_ 1 := cmpf .oge main_v7 main_cst
  let main_v9 : FVec F S1 .f32 := (extractStridedSlice S1 ![0] · slices_S3_S1_0) main_v1
  let main_v10 : FVec F S_ .f32 := shapeCast S_ main_v9 shapeCasts_S1_S_
  let main_v11 : FVec F S1 .f32 := (extractStridedSlice S1 ![1] · slices_S3_S1_1) main_v1
  let main_v12 : FVec F S_ .f32 := shapeCast S_ main_v11 shapeCasts_S1_S_
  let main_v13 : IVec S_ 1 := cmpf .olt main_v10 main_v12
  let main_v14 : IVec S_ 1 := andi main_v8 main_v13
  let main_v15 : FVec F S1 .f32 := (extractStridedSlice S1 ![1] · slices_S3_S1_1) main_v1
  let main_v16 : FVec F S_ .f32 := shapeCast S_ main_v15 shapeCasts_S1_S_
  let main_v17 : FVec F S1 .f32 := (extractStridedSlice S1 ![2] · slices_S3_S1_2) main_v1
  let main_v18 : FVec F S_ .f32 := shapeCast S_ main_v17 shapeCasts_S1_S_
  let main_v19 : IVec S_ 1 := cmpf .olt main_v16 main_v18
  let main_v20 : IVec S_ 1 := andi main_v14 main_v19
  let main_v21 : FVec F S1 .f32 := (extractStridedSlice S1 ![2] · slices_S3_S1_2) main_v1
  fn_part1 (F := F) main_arg2 main_v5 main_v20 main_v21
-- ==== Kernel.lean ====
abbrev S1x96x224x224 : Shape := ⟨4, ![1, 96, 224, 224]⟩
abbrev S96x96x1x1x3 : Shape := ⟨5, ![96, 96, 1, 1, 3]⟩
abbrev S96x224x224 : Shape := ⟨3, ![96, 224, 224]⟩
abbrev S1x1x1x1x3 : Shape := ⟨5, ![1, 1, 1, 1, 3]⟩
abbrev S3 : Shape := ⟨1, ![3]⟩
abbrev S96x96x3 : Shape := ⟨3, ![96, 96, 3]⟩
abbrev S3x96x96 : Shape := ⟨3, ![3, 96, 96]⟩
abbrev S96x32x224 : Shape := ⟨3, ![96, 32, 224]⟩
abbrev S1 : Shape := ⟨1, ![1]⟩
abbrev S96x7168 : Shape := ⟨2, ![96, 7168]⟩
abbrev S1x96x96 : Shape := ⟨3, ![1, 96, 96]⟩
abbrev S96x96 : Shape := ⟨2, ![96, 96]⟩
abbrev S96 : Shape := ⟨1, ![96]⟩
abbrev S96x1 : Shape := ⟨2, ![96, 1]⟩

abbrev nBuf : Space → Nat
  | .hbm => 9
  | .vmem => 5
  | .smem => 1
  | _ => 0

abbrev bufTy : (tb : Table) → Fin (tcTables nBuf tb) → BufTy
  | .hbm, ⟨0, _⟩ => ⟨S1x96x224x224, .f32⟩
  | .hbm, ⟨1, _⟩ => ⟨S96x96x1x1x3, .f32⟩
  | .hbm, ⟨2, _⟩ => ⟨S96x96x1x1x3, .f32⟩
  | .hbm, ⟨3, _⟩ => ⟨S96x224x224, .f32⟩
  | .hbm, ⟨4, _⟩ => ⟨S1x1x1x1x3, .f32⟩
  | .hbm, ⟨5, _⟩ => ⟨S3, .f32⟩
  | .hbm, ⟨6, _⟩ => ⟨S96x96x3, .f32⟩
  | .hbm, ⟨7, _⟩ => ⟨S3x96x96, .f32⟩
  | .hbm, ⟨8, _⟩ => ⟨S96x224x224, .f32⟩
  | .local _ .vmem, ⟨0, _⟩ => ⟨S96x32x224, .f32⟩
  | .local _ .vmem, ⟨1, _⟩ => ⟨S96x32x224, .f32⟩
  | .local _ .vmem, ⟨2, _⟩ => ⟨S3x96x96, .f32⟩
  | .local _ .vmem, ⟨3, _⟩ => ⟨S96x32x224, .f32⟩
  | .local _ .vmem, ⟨4, _⟩ => ⟨S96x32x224, .f32⟩
  | .local _ .smem, ⟨0, _⟩ => ⟨S3, .f32⟩
  | _, _ => ⟨S1x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![7], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S96x32x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S96x32x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x96x224x224 : Shape := ⟨4, ![1, 96, 224, 224]⟩
abbrev S96x96x1x1x3 : Shape := ⟨5, ![96, 96, 1, 1, 3]⟩
abbrev S_ : Shape := ⟨0, ![]⟩
abbrev S96x224x224 : Shape := ⟨3, ![96, 224, 224]⟩
abbrev S96x96x3 : Shape := ⟨3, ![96, 96, 3]⟩
abbrev S96 : Shape := ⟨1, ![96]⟩
abbrev S96x1x1x1 : Shape := ⟨4, ![96, 1, 1, 1]⟩
abbrev S1x96x1x1 : Shape := ⟨4, ![1, 96, 1, 1]⟩
abbrev S1x96x224x224x1 : Shape := ⟨5, ![1, 96, 224, 224, 1]⟩
abbrev S96x96x224x224x3 : Shape := ⟨5, ![96, 96, 224, 224, 3]⟩
abbrev S96x96x224x224 : Shape := ⟨4, ![96, 96, 224, 224]⟩
abbrev S96x96x224x224x1 : Shape := ⟨5, ![96, 96, 224, 224, 1]⟩
abbrev S96x96x1 : Shape := ⟨3, ![96, 96, 1]⟩
abbrev S96x96 : Shape := ⟨2, ![96, 96]⟩
abbrev S96x96x1x1 : Shape := ⟨4, ![96, 96, 1, 1]⟩

abbrev nBuf : Space → Nat
  | .hbm => 196
  | .vmem => 0
  | .smem => 0
  | _ => 0

abbrev hbmTy0_0 (i : Nat) : BufTy := match i % 128 with
  | 0 => ⟨S1x96x224x224, .f32⟩
  | 1 => ⟨S96x96x1x1x3, .f32⟩
  | 2 => ⟨S96x96x1x1x3, .f32⟩
  | 3 => ⟨S_, .f32⟩
  | 4 => ⟨S_, .f32⟩
  | 5 => ⟨S_, .f32⟩
  | 6 => ⟨S1x96x224x224, .f32⟩
  | 7 => ⟨S1x96x224x224, .f32⟩
  | 8 => ⟨S_, .f32⟩
  | 9 => ⟨S1x96x224x224, .f32⟩
  | 10 => ⟨S1x96x224x224, .f32⟩
  | 11 => ⟨S96x224x224, .f32⟩
  | 12 => ⟨S96x96x3, .f32⟩
  | 13 => ⟨S96x96x3, .f32⟩
  | 14 => ⟨S96, .i32⟩
  | 15 => ⟨S96x1x1x1, .i32⟩
  | 16 => ⟨S96, .i32⟩
  | 17 => ⟨S1x96x1x1, .i32⟩
  | 18 => ⟨S1x96x224x224x1, .f32⟩
  | 19 => ⟨S96x96x1x1x3, .f32⟩
  | 20 => ⟨S96x96x224x224x3, .f32⟩
  | 21 => ⟨S96x96x224x224x3, .f32⟩
  | 22 => ⟨S96x96x224x224x3, .i1⟩
  | 23 => ⟨S96x96x224x224x3, .i32⟩
  | 24 => ⟨S_, .i32⟩
  | 25 => ⟨S96x96x224x224, .i32⟩
  | 26 => ⟨S_, .i32⟩
  | 27 => ⟨S96x96x224x224, .i32⟩
  | 28 => ⟨S96x96x224x224, .i32⟩
  | 29 => ⟨S_, .i32⟩
  | 30 => ⟨S_, .i32⟩
  | 31 => ⟨S_, .i32⟩
  | 32 => ⟨S96x96x224x224, .i32⟩
  | 33 => ⟨S96x96x224x224, .i32⟩
  | 34 => ⟨S_, .i32⟩
  | 35 => ⟨S96x96x224x224, .i32⟩
  | 36 => ⟨S96x96x224x224, .i32⟩
  | 37 => ⟨S_, .i32⟩
  | 38 => ⟨S96x1x1x1, .i32⟩
  | 39 => ⟨S96x1x1x1, .i1⟩
  | 40 => ⟨S_, .i32⟩
  | 41 => ⟨S96x1x1x1, .i32⟩
  | 42 => ⟨S96x1x1x1, .i32⟩
  | 43 => ⟨S96x1x1x1, .i32⟩
  | 44 => ⟨S_, .i32⟩
  | 45 => ⟨S1x96x1x1, .i32⟩
  | 46 => ⟨S1x96x1x1, .i1⟩
  | 47 => ⟨S_, .i32⟩
  | 48 => ⟨S1x96x1x1, .i32⟩
  | 49 => ⟨S1x96x1x1, .i32⟩
  | 50 => ⟨S1x96x1x1, .i32⟩
  | 51 => ⟨S_, .i32⟩
  | 52 => ⟨S96x96x224x224, .i32⟩
  | 53 => ⟨S96x96x224x224, .i1⟩
  | 54 => ⟨S_, .i32⟩
  | 55 => ⟨S96x96x224x224, .i32⟩
  | 56 => ⟨S96x96x224x224, .i32⟩
  | 57 => ⟨S96x96x224x224, .i32⟩
  | 58 => ⟨S96x96x224x224, .i32⟩
  | 59 => ⟨S96x96x224x224, .i32⟩
  | 60 => ⟨S96x96x224x224x1, .i32⟩
  | 61 => ⟨S96x96x224x224x1, .i32⟩
  | 62 => ⟨S96x96x224x224x1, .i32⟩
  | 63 => ⟨S96x96x224x224x3, .i32⟩
  | 64 => ⟨S96x96x224x224, .f32⟩
  | 65 => ⟨S_, .i32⟩
  | 66 => ⟨S96x96x224x224, .i32⟩
  | 67 => ⟨S96x96x224x224, .i32⟩
  | 68 => ⟨S_, .i32⟩
  | 69 => ⟨S96x1x1x1, .i32⟩
  | 70 => ⟨S96x1x1x1, .i1⟩
  | 71 => ⟨S_, .i32⟩
  | 72 => ⟨S96x1x1x1, .i32⟩
  | 73 => ⟨S96x1x1x1, .i32⟩
  | 74 => ⟨S96x1x1x1, .i32⟩
  | 75 => ⟨S_, .i32⟩
  | 76 => ⟨S1x96x1x1, .i32⟩
  | 77 => ⟨S1x96x1x1, .i1⟩
  | 78 => ⟨S_, .i32⟩
  | 79 => ⟨S1x96x1x1, .i32⟩
  | 80 => ⟨S1x96x1x1, .i32⟩
  | 81 => ⟨S1x96x1x1, .i32⟩
  | 82 => ⟨S_, .i32⟩
  | 83 => ⟨S96x96x224x224, .i32⟩
  | 84 => ⟨S96x96x224x224, .i1⟩
  | 85 => ⟨S_, .i32⟩
  | 86 => ⟨S96x96x224x224, .i32⟩
  | 87 => ⟨S96x96x224x224, .i32⟩
  | 88 => ⟨S96x96x224x224, .i32⟩
  | 89 => ⟨S96x96x224x224, .i32⟩
  | 90 => ⟨S96x96x224x224, .i32⟩
  | 91 => ⟨S96x96x224x224x1, .i32⟩
  | 92 => ⟨S96x96x224x224x1, .i32⟩
  | 93 => ⟨S96x96x224x224x1, .i32⟩
  | 94 => ⟨S96x96x224x224x3, .i32⟩
  | 95 => ⟨S96x96x224x224, .f32⟩
  | 96 => ⟨S_, .i32⟩
  | 97 => ⟨S96x1x1x1, .i32⟩
  | 98 => ⟨S96x1x1x1, .i1⟩
  | 99 => ⟨S_, .i32⟩
  | 100 => ⟨S96x1x1x1, .i32⟩
  | 101 => ⟨S96x1x1x1, .i32⟩
  | 102 => ⟨S96x1x1x1, .i32⟩
  | 103 => ⟨S_, .i32⟩
  | 104 => ⟨S1x96x1x1, .i32⟩
  | 105 => ⟨S1x96x1x1, .i1⟩
  | 106 => ⟨S_, .i32⟩
  | 107 => ⟨S1x96x1x1, .i32⟩
  | 108 => ⟨S1x96x1x1, .i32⟩
  | 109 => ⟨S1x96x1x1, .i32⟩
  | 110 => ⟨S_, .i32⟩
  | 111 => ⟨S96x96x224x224, .i32⟩
  | 112 => ⟨S96x96x224x224, .i1⟩
  | 113 => ⟨S_, .i32⟩
  | 114 => ⟨S96x96x224x224, .i32⟩
  | 115 => ⟨S96x96x224x224, .i32⟩
  | 116 => ⟨S96x96x224x224, .i32⟩
  | 117 => ⟨S96x96x224x224, .i32⟩
  | 118 => ⟨S96x96x224x224, .i32⟩
  | 119 => ⟨S96x96x224x224x1, .i32⟩
  | 120 => ⟨S96x96x224x224x1, .i32⟩
  | 121 => ⟨S96x96x224x224x1, .i32⟩
  | 122 => ⟨S96x96x224x224x3, .i32⟩
  | 123 => ⟨S96x96x224x224, .f32⟩
  | 124 => ⟨S_, .i32⟩
  | 125 => ⟨S96x96x224x224, .i32⟩
  | 126 => ⟨S96x96x224x224, .i32⟩
  | 127 => ⟨S_, .i32⟩
  | _ => ⟨S1x96x224x224, .f32⟩

abbrev hbmTy0_1 (i : Nat) : BufTy := match i % 128 with
  | 0 => ⟨S96x1x1x1, .i32⟩
  | 1 => ⟨S96x1x1x1, .i1⟩
  | 2 => ⟨S_, .i32⟩
  | 3 => ⟨S96x1x1x1, .i32⟩
  | 4 => ⟨S96x1x1x1, .i32⟩
  | 5 => ⟨S96x1x1x1, .i32⟩
  | 6 => ⟨S_, .i32⟩
  | 7 => ⟨S1x96x1x1, .i32⟩
  | 8 => ⟨S1x96x1x1, .i1⟩
  | 9 => ⟨S_, .i32⟩
  | 10 => ⟨S1x96x1x1, .i32⟩
  | 11 => ⟨S1x96x1x1, .i32⟩
  | 12 => ⟨S1x96x1x1, .i32⟩
  | 13 => ⟨S_, .i32⟩
  | 14 => ⟨S96x96x224x224, .i32⟩
  | 15 => ⟨S96x96x224x224, .i1⟩
  | 16 => ⟨S_, .i32⟩
  | 17 => ⟨S96x96x224x224, .i32⟩
  | 18 => ⟨S96x96x224x224, .i32⟩
  | 19 => ⟨S96x96x224x224, .i32⟩
  | 20 => ⟨S96x96x224x224, .i32⟩
  | 21 => ⟨S96x96x224x224, .i32⟩
  | 22 => ⟨S96x96x224x224x1, .i32⟩
  | 23 => ⟨S96x96x224x224x1, .i32⟩
  | 24 => ⟨S96x96x224x224x1, .i32⟩
  | 25 => ⟨S96x96x224x224x3, .i32⟩
  | 26 => ⟨S96x96x224x224, .f32⟩
  | 27 => ⟨S96x96x224x224, .i1⟩
  | 28 => ⟨S96x96x224x224, .f32⟩
  | 29 => ⟨S_, .f32⟩
  | 30 => ⟨S_, .f32⟩
  | 31 => ⟨S96x96x224x224, .f32⟩
  | 32 => ⟨S96x96x224x224, .f32⟩
  | 33 => ⟨S1x96x224x224, .f32⟩
  | 34 => ⟨S96x96x224x224, .f32⟩
  | 35 => ⟨S96x96x224x224, .f32⟩
  | 36 => ⟨S96x96x224x224, .f32⟩
  | 37 => ⟨S96x96x224x224, .i1⟩
  | 38 => ⟨S96x96x224x224, .f32⟩
  | 39 => ⟨S96x96x224x224, .f32⟩
  | 40 => ⟨S96x96x224x224, .f32⟩
  | 41 => ⟨S96x96x224x224, .f32⟩
  | 42 => ⟨S1x96x224x224, .f32⟩
  | 43 => ⟨S96x96x1, .f32⟩
  | 44 => ⟨S96x96, .f32⟩
  | 45 => ⟨S96x96x1x1, .f32⟩
  | 46 => ⟨S96x96x224x224, .f32⟩
  | 47 => ⟨S96x96x224x224, .f32⟩
  | 48 => ⟨S96x96x224x224, .i1⟩
  | 49 => ⟨S96x96x1, .f32⟩
  | 50 => ⟨S96x96, .f32⟩
  | 51 => ⟨S96x96x1x1, .f32⟩
  | 52 => ⟨S96x96x224x224, .f32⟩
  | 53 => ⟨S96x96x224x224, .f32⟩
  | 54 => ⟨S1x96x224x224, .f32⟩
  | 55 => ⟨S96x96x1, .f32⟩
  | 56 => ⟨S96x96, .f32⟩
  | 57 => ⟨S96x96x1x1, .f32⟩
  | 58 => ⟨S96x96x224x224, .f32⟩
  | 59 => ⟨S96x96x224x224, .f32⟩
  | 60 => ⟨S96x96x224x224, .i1⟩
  | 61 => ⟨S96x96x1, .f32⟩
  | 62 => ⟨S96x96, .f32⟩
  | 63 => ⟨S96x96x1x1, .f32⟩
  | 64 => ⟨S96x96x224x224, .f32⟩
  | 65 => ⟨S96x96x224x224, .f32⟩
  | 66 => ⟨S_, .f32⟩
  | 67 => ⟨S96x224x224, .f32⟩
  | _ => ⟨S1x96x224x224, .f32⟩

abbrev hbmTy (i : Nat) : BufTy := match i / 128 with
  | 0 => hbmTy0_0 i
  | 1 => hbmTy0_1 i
  | _ => ⟨S1x96x224x224, .f32⟩

abbrev bufTy : (tb : Table) → Fin (tcTables nBuf tb) → BufTy
  | .hbm, ⟨i, _⟩ => hbmTy i
  | _, _ => ⟨S1x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_c_3 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_c_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_c_11 : Ref sig .tc := ⟨.hbm, 68, rfl⟩
abbrev main_v42 : Ref sig .tc := ⟨.hbm, 69, rfl⟩
abbrev main_v43 : Ref sig .tc := ⟨.hbm, 70, rfl⟩
abbrev main_c_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_13 : Ref sig .tc := ⟨.hbm, 75, rfl⟩
abbrev main_v47 : Ref sig .tc := ⟨.hbm, 76, rfl⟩
abbrev main_v48 : Ref sig .tc := ⟨.hbm, 77, rfl⟩
abbrev main_c_14 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_15 : Ref sig .tc := ⟨.hbm, 82, rfl⟩
abbrev main_v52 : Ref sig .tc := ⟨.hbm, 83, rfl⟩
abbrev main_v53 : Ref sig .tc := ⟨.hbm, 84, rfl⟩
abbrev main_c_16 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_17 : Ref sig .tc := ⟨.hbm, 96, rfl⟩
abbrev main_v64 : Ref sig .tc := ⟨.hbm, 97, rfl⟩
abbrev main_v65 : Ref sig .tc := ⟨.hbm, 98, rfl⟩
abbrev main_c_18 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_19 : Ref sig .tc := ⟨.hbm, 103, rfl⟩
abbrev main_v69 : Ref sig .tc := ⟨.hbm, 104, rfl⟩
abbrev main_v70 : Ref sig .tc := ⟨.hbm, 105, rfl⟩
abbrev main_c_20 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_21 : Ref sig .tc := ⟨.hbm, 110, rfl⟩
abbrev main_v74 : Ref sig .tc := ⟨.hbm, 111, rfl⟩
abbrev main_v75 : Ref sig .tc := ⟨.hbm, 112, rfl⟩
abbrev main_c_22 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_23 : Ref sig .tc := ⟨.hbm, 124, rfl⟩
abbrev main_v86 : Ref sig .tc := ⟨.hbm, 125, rfl⟩
abbrev main_v87 : Ref sig .tc := ⟨.hbm, 126, rfl⟩
abbrev main_c_24 : Ref sig .tc := ⟨.hbm, 127, rfl⟩
abbrev main_v88 : Ref sig .tc := ⟨.hbm, 128, rfl⟩
abbrev main_v89 : Ref sig .tc := ⟨.hbm, 129, rfl⟩
abbrev main_c_25 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_c_26 : Ref sig .tc := ⟨.hbm, 134, rfl⟩
abbrev main_v93 : Ref sig .tc := ⟨.hbm, 135, rfl⟩
abbrev main_v94 : Ref sig .tc := ⟨.hbm, 136, rfl⟩
abbrev main_c_27 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_28 : Ref sig .tc := ⟨.hbm, 141, rfl⟩
abbrev main_v98 : Ref sig .tc := ⟨.hbm, 142, rfl⟩
abbrev main_v99 : Ref sig .tc := ⟨.hbm, 143, rfl⟩
abbrev main_c_29 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_30 : Ref sig .tc := ⟨.hbm, 157, rfl⟩
abbrev main_call2_v0 : Ref sig .tc := ⟨.hbm, 158, rfl⟩
abbrev main_call2_v1 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_call4_v0 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_call5_v0 : Ref sig .tc := ⟨.hbm, 192, rfl⟩
abbrev main_v143 : Ref sig .tc := ⟨.hbm, 193, rfl⟩
abbrev main_cst_31 : Ref sig .tc := ⟨.hbm, 194, rfl⟩
abbrev main_v144 : Ref sig .tc := ⟨.hbm, 195, rfl⟩

abbrev nD : Nat := 1
abbrev τ : Topo := Topo.v7x

variable {F : FTy → Type} [FloatOps F]
-- ==== Proof.Spline.Formula.lean ====
/- The formulas the two programs evaluate at one place of the result, over the extended reals. -/
module

public import Idealize.ShloMosaic.PureOps.Ideal

@[expose] public section

noncomputable section

namespace Cert.Spline

open Idealize.ShloMosaic

/-- The inverse of a segment's width, and zero for a segment of width zero. -/
def recip (d : EReal) : EReal := if d = 0 then 0 else Ideal.div 1 (if d = 0 then 1 else d)

/-- What one place of the result holds, from the three shared breakpoints `p`, the input channels `x` at that place
    and the values `v k i` of breakpoint `k` for input channel `i`: the sum of the middle values, plus the sum of
    the left segment's slopes times the length of that segment right of `x`, plus the sum of the right segment's
    slopes times the length of that segment left of `x`. -/
def mixed (p : Fin 3 → EReal) (x : Fin 96 → EReal) (v : Fin 3 → Fin 96 → EReal) : EReal :=
  ∑ i, v 1 i + ∑ i, (v 0 i - v 1 i) * recip (p 1 - p 0) * min (p 1 - p 0) (max 0 (p 1 - x i))
    + ∑ i, (v 2 i - v 1 i) * recip (p 2 - p 1) * min (p 2 - p 1) (max 0 (x i - p 1))

/-- A number held between -1 and 1. -/
def clip (x : EReal) : EReal := min 1 (max (-1) x)

/-- The left breakpoint of the segment a number lies in: the middle one from there on, the first one before it. -/
def lo (p : Fin 3 → EReal) (c : EReal) : Fin 3 := if p 1 ≤ c then 1 else 0

/-- The right breakpoint of that segment. -/
def hi (p : Fin 3 → EReal) (c : EReal) : Fin 3 := if p 1 ≤ c then 2 else 1

/-- The piecewise linear function through the points `(p k, v k)`, constant outside them, at a number `c`: straight
    line interpolation on the segment `c` lies in. -/
def pwl (p v : Fin 3 → EReal) (c : EReal) : EReal :=
  if p 2 ≤ c then v 2
  else if c ≤ p 0 then v 0
  else if p (hi p c) = p (lo p c) then v (lo p c)
  else v (lo p c) + Ideal.div (c - p (lo p c)) (p (hi p c) - p (lo p c)) * (v (hi p c) - v (lo p c))

/-- The pattern `0xBF800000` is minus one. -/
theorem bits_neg_one : Ideal.ofBits .f32 0xBF800000#32 = -1 := by
  rw [show (-1 : EReal) = ((-(1 : ℝ) : ℝ) : EReal) by norm_num]
  simp [Ideal.ofBits, Ideal.ieee, -EReal.coe_mul, -EReal.coe_neg]; norm_num

/-- The pattern `0x7F800000` is infinity. -/
theorem bits_inf : Ideal.ofBits .f32 0x7F800000#32 = ⊤ := by
  simp [Ideal.ofBits, Ideal.ieee]

end Cert.Spline

end
-- ==== Proof.Spline.Element.lean ====
/- The law of one element: interpolating on the segment an input lies in is the middle value plus the two clamped
   ramps, each times its segment's slope. -/
module

public import proofs.«01_k».proof.Proof.Spline.Formula

@[expose] public section

noncomputable section

namespace Cert.Spline

open Idealize.ShloMosaic

/-- The smaller of two reals, as an extended real. -/
theorem real_min (a b : ℝ) : ((min a b : ℝ) : EReal) = min (a : EReal) b := EReal.coe_strictMono.monotone.map_min

/-- The larger of two reals, as an extended real. -/
theorem real_max (a b : ℝ) : ((max a b : ℝ) : EReal) = max (a : EReal) b := EReal.coe_strictMono.monotone.map_max

/-- Dividing reals, the divisor not zero. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The inverse width of a segment whose ends are apart. -/
theorem recip_real (a b : ℝ) (h : a < b) : recip ((b : EReal) - a) = ((1 / (b - a) : ℝ) : EReal) := by
  have hne : b - a ≠ 0 := ne_of_gt (sub_pos.2 h)
  have hc : ((b - a : ℝ) : EReal) ≠ 0 := by exact_mod_cast hne
  unfold recip
  rw [← EReal.coe_sub, if_neg hc, if_neg hc, ← EReal.coe_one, div_real _ _ hne]

/-- A clipped number is a real number between -1 and 1. -/
theorem clip_real (x : EReal) : ∃ c : ℝ, clip x = (c : EReal) ∧ -1 ≤ c ∧ c ≤ 1
    ∧ (x = ⊥ ∧ c = -1 ∨ x = ⊤ ∧ c = 1 ∨ ∃ r : ℝ, x = (r : EReal) ∧ c = min 1 (max (-1) r)) := by
  unfold clip
  have e1 : ((-1 : ℝ) : EReal) = -1 := by norm_num
  induction x with
  | bot => exact ⟨-1, by
      rw [← e1, max_eq_left bot_le, ← EReal.coe_one, ← real_min, min_eq_right (by norm_num)], le_refl _, by norm_num, Or.inl ⟨rfl, rfl⟩⟩
  | top => exact ⟨1, by simp, by norm_num, le_refl _, Or.inr (Or.inl ⟨rfl, rfl⟩)⟩
  | coe r =>
    refine ⟨min 1 (max (-1) r), ?_, le_min (by norm_num) (le_max_left _ _), min_le_left _ _, Or.inr (Or.inr ⟨r, rfl, rfl⟩)⟩
    rw [real_min, real_max, e1, EReal.coe_one]

/-- A clipped real is -1 up to -1, itself in between, and 1 from 1 on. -/
theorem clip_cases (r : ℝ) : r ≤ -1 ∧ min 1 (max (-1) r) = -1 ∨ min 1 (max (-1) r) = r ∨ 1 ≤ r ∧ min 1 (max (-1) r) = 1 := by
  rcases le_total r (-1) with h | h
  · exact Or.inl ⟨h, by rw [max_eq_left h, min_eq_right (by norm_num)]⟩
  · rw [max_eq_right h]
    rcases le_total r 1 with h' | h'
    · exact Or.inr (Or.inl (min_eq_right h'))
    · exact Or.inr (Or.inr ⟨h', min_eq_left h'⟩)

/-- The ramp falling towards `b`: held to the width of `[a, b]`, it does not notice the clipping. -/
theorem ramp_left (a b : ℝ) (ha : -1 ≤ a) (hab : a < b) (hb : b ≤ 1) (x : EReal) (c : ℝ)
    (hx : x = ⊥ ∧ c = -1 ∨ x = ⊤ ∧ c = 1 ∨ ∃ r : ℝ, x = (r : EReal) ∧ c = min 1 (max (-1) r)) :
    min ((b : EReal) - a) (max 0 (b - x)) = ((min (b - a) (max 0 (b - c)) : ℝ) : EReal) := by
  rcases hx with ⟨rfl, rfl⟩ | ⟨rfl, rfl⟩ | ⟨r, rfl, rfl⟩
  · rw [EReal.coe_sub_bot, max_eq_right le_top, min_eq_left le_top, ← EReal.coe_sub,
      max_eq_right (by linarith), min_eq_left (by linarith)]
  · rw [sub_eq_add_neg (b : EReal) ⊤, EReal.neg_top, EReal.add_bot, max_eq_left bot_le, max_eq_left (by linarith), real_min, EReal.coe_sub, EReal.coe_zero]
  · rw [← EReal.coe_sub, ← EReal.coe_sub, ← EReal.coe_zero, ← real_max, ← real_min]
    congr 1
    rcases clip_cases r with ⟨hr, e⟩ | e | ⟨hr, e⟩ <;> rw [e]
    · rw [max_eq_right (by linarith), max_eq_right (by linarith), min_eq_left (by linarith), min_eq_left (by linarith)]
    · rw [max_eq_left (by linarith), max_eq_left (by linarith)]

/-- The ramp rising from `a`: held to the width of `[a, b]`, it does not notice the clipping. -/
theorem ramp_right (a b : ℝ) (ha : -1 ≤ a) (hab : a < b) (hb : b ≤ 1) (x : EReal) (c : ℝ)
    (hx : x = ⊥ ∧ c = -1 ∨ x = ⊤ ∧ c = 1 ∨ ∃ r : ℝ, x = (r : EReal) ∧ c = min 1 (max (-1) r)) :
    min ((b : EReal) - a) (max 0 (x - a)) = ((min (b - a) (max 0 (c - a)) : ℝ) : EReal) := by
  rcases hx with ⟨rfl, rfl⟩ | ⟨rfl, rfl⟩ | ⟨r, rfl, rfl⟩
  · rw [EReal.bot_sub, max_eq_left bot_le, max_eq_left (by linarith), real_min, EReal.coe_sub, EReal.coe_zero]
  · rw [EReal.top_sub_coe, max_eq_right le_top, min_eq_left le_top, ← EReal.coe_sub,
      max_eq_right (by linarith), min_eq_left (by linarith)]
  · rw [← EReal.coe_sub, ← EReal.coe_sub, ← EReal.coe_zero, ← real_max, ← real_min]
    congr 1
    rcases clip_cases r with ⟨hr, e⟩ | e | ⟨hr, e⟩ <;> rw [e]
    · rw [max_eq_left (by linarith), max_eq_left (by linarith)]
    · rw [max_eq_right (by linarith), max_eq_right (by linarith), min_eq_left (by linarith), min_eq_left (by linarith)]

/-- The law among real numbers: left of the first breakpoint, on either segment, and right of the last one. -/
theorem pwl_real (p v : Fin 3 → ℝ) (h01 : p 0 < p 1) (h12 : p 1 < p 2) (c : ℝ) :
    pwl (fun k => (p k : EReal)) (fun k => (v k : EReal)) c
      = ((v 1 + (v 0 - v 1) * (1 / (p 1 - p 0)) * min (p 1 - p 0) (max 0 (p 1 - c))
          + (v 2 - v 1) * (1 / (p 2 - p 1)) * min (p 2 - p 1) (max 0 (c - p 1)) : ℝ) : EReal) := by
  have hd0 : p 1 - p 0 ≠ 0 := ne_of_gt (sub_pos.2 h01)
  have hd1 : p 2 - p 1 ≠ 0 := ne_of_gt (sub_pos.2 h12)
  unfold pwl lo hi
  simp only [EReal.coe_le_coe_iff, EReal.coe_eq_coe_iff]
  by_cases h2 : p 2 ≤ c
  · rw [if_pos h2]
    congr 1
    rw [max_eq_left (by linarith), max_eq_right (by linarith), min_eq_right (by linarith), min_eq_left (by linarith)]
    field_simp
    ring
  · rw [if_neg h2]
    by_cases h0 : c ≤ p 0
    · rw [if_pos h0]
      congr 1
      rw [max_eq_right (by linarith), max_eq_left (by linarith), min_eq_left (by linarith), min_eq_right (by linarith)]
      field_simp
      ring
    · rw [if_neg h0]
      by_cases h1 : p 1 ≤ c
      · simp only [if_pos h1]
        rw [if_neg (ne_of_gt h12), ← EReal.coe_sub, ← EReal.coe_sub, ← EReal.coe_sub, div_real _ _ hd1,
          ← EReal.coe_mul, ← EReal.coe_add]
        congr 1
        rw [max_eq_left (by linarith), max_eq_right (by linarith), min_eq_right (by linarith), min_eq_right (by linarith)]
        field_simp
        ring
      · simp only [if_neg h1]
        rw [if_neg (ne_of_gt h01), ← EReal.coe_sub, ← EReal.coe_sub, ← EReal.coe_sub, div_real _ _ hd0,
          ← EReal.coe_mul, ← EReal.coe_add]
        congr 1
        rw [max_eq_right (by linarith), max_eq_left (by linarith), min_eq_right (by linarith), min_eq_right (by linarith)]
        field_simp
        ring

/-- One element: increasing breakpoints inside [-1, 1], real values, any extended real input. -/
theorem pwl_clip (p v : Fin 3 → ℝ) (h0 : -1 ≤ p 0) (h01 : p 0 < p 1) (h12 : p 1 < p 2) (h2 : p 2 ≤ 1) (x : EReal) :
    pwl (fun k => (p k : EReal)) (fun k => (v k : EReal)) (clip x)
      = (v 1 : EReal)
        + ((v 0 : EReal) - v 1) * recip ((p 1 : EReal) - p 0) * min ((p 1 : EReal) - p 0) (max 0 (p 1 - x))
        + ((v 2 : EReal) - v 1) * recip ((p 2 : EReal) - p 1) * min ((p 2 : EReal) - p 1) (max 0 (x - p 1)) := by
  obtain ⟨c, hc, -, -, hx⟩ := clip_real x
  rw [hc, pwl_real p v h01 h12 c, recip_real _ _ h01, recip_real _ _ h12,
    ramp_left _ _ h0 h01 (by linarith) x c hx, ramp_right _ _ (by linarith) h12 h2 x c hx]
  push_cast
  rfl

/-- One place of the result: the sum over the input channels of the interpolated values is the kernel's formula. -/
theorem sum_pwl (p : Fin 3 → ℝ) (v : Fin 3 → Fin 96 → ℝ) (h0 : -1 ≤ p 0) (h01 : p 0 < p 1) (h12 : p 1 < p 2)
    (h2 : p 2 ≤ 1) (x : Fin 96 → EReal) :
    ∑ f, pwl (fun k => (p k : EReal)) (fun k => (v k f : EReal)) (clip (x f))
      = mixed (fun k => (p k : EReal)) x (fun k f => (v k f : EReal)) := by
  unfold mixed
  rw [← Finset.sum_add_distrib, ← Finset.sum_add_distrib]
  exact Finset.sum_congr rfl fun f _ => pwl_clip p (fun k => v k f) h0 h01 h12 h2 (x f)

end Cert.Spline

end
-- ==== Proof.Spline.KernelArray.lean ====
/- The kernel's result array, element by element: output channel `o` at row `h`, column `w` holds
   the bias plus the two products, written as sums over the input channels. -/
module

public import proofs.«01_k».proof.Defs
public import proofs.«01_k».proof.Proof.Gen.KernelIdeal.Value
public import proofs.«01_k».proof.Proof.Spline.Formula
public import Idealize.ShloMosaic.Lib.Pipeline.ValueKit
public import Idealize.ShloMosaic.Lib.Pointwise
public import Idealize.ShloMosaic.Init

@[expose] public section

set_option maxRecDepth 16384

noncomputable section

namespace Cert.KernelIdeal.Spline

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Which block each window shows at a grid point: the breakpoints and the values whole, the input and the result
    in strips of rows. -/
theorem idx_eq : ∀ t : Fin cfg0.N, win0_0.index t = ![0] ∧ win0_1.index t = ![0, t.val, 0]
    ∧ win0_2.index t = ![0, 0, 0] ∧ win0_3.index t = ![0, t.val, 0] := by
  exact (by decide +kernel : ∀ t : Fin grid0.N, win0_0.index t = ![0] ∧ win0_1.index t = ![0, t.val, 0]
    ∧ win0_2.index t = ![0, 0, 0] ∧ win0_3.index t = ![0, t.val, 0])

/-- The array of the formula's values, from the operands as they stand when the kernel starts. -/
def whole (p : S3.Idx → EReal) (x : S96x224x224.Idx → EReal) (v : S3x96x96.Idx → EReal) : S96x224x224.Idx → EReal :=
  fun i => Cert.Spline.mixed (fun k => p (ix1 k)) (fun f => x (ix3 f (i 1) (i 2))) (fun k f => v (ix3 k (i 0) f))

/-- After the run the result array holds the formula's value at every place. -/
theorem arr_eq (c : Dev nD) : (dats m 0 c).arrAt 3 cfg0.N = whole (V m c main_v2) (V m c main_v0) (V m c main_v4) := by
  refine (dats m 0 c).arrAt_eq_of_covers 3 _ (by decide +kernel) fun t hf y => ?_
  blk_simp
  rw [after0_3]
  unfold outsAt0
  frame_out
  idx_vars y
  unfold_payloads
  pointwise
  unfold whole Cert.Spline.mixed Cert.Spline.recip
  obtain ⟨h0, h1, h2, h3⟩ := idx_eq t
  have e0 : ∀ k, iblk m c 0 t (ix1 k) = V m c main_v2 (ix1 k) := fun k => by
    blk_ext [iblk, h0]
  have e2 : ∀ k o f, iblk m c 2 t (ix3 k o f) = V m c main_v4 (ix3 k o f) := fun k o f => by
    blk_ext [iblk, h2]
  have e1 : ∀ f, iblk m c 1 t (ix3 f y1 y2) = V m c main_v0
      (ix3 f (((View.whole main_v5).slice (win0_3.rect t)).emb (ix3 y0 y1 y2) 1)
        (((View.whole main_v5).slice (win0_3.rect t)).emb (ix3 y0 y1 y2) 2)) := fun f => by
    blk_ext [iblk, h1, h3]
  have e3 : (((View.whole main_v5).slice (win0_3.rect t)).emb (ix3 y0 y1 y2) 0) = y0 := by
    apply Fin.ext
    blk_simp [h3]
  simp only [e0, e1, e2, e3]

/-- The kernel's breakpoint operand is the first channel pair's row of the breakpoint array. -/
theorem entry_pos (c : Dev nD) (k : Fin 3) :
    (V m c main_v2 : S3.Idx → EReal) (ix1 k) = (m ((c : Thread nD τ).loc main_arg1) : S96x96x1x1x3.Idx → EReal) (ix5 0 0 0 0 k) := by
  entry_read
  pointwise

/-- The kernel's input operand is the input array without its batch axis. -/
theorem entry_x (c : Dev nD) (f : Fin 96) (h w : Fin 224) :
    (V m c main_v0 : S96x224x224.Idx → EReal) (ix3 f h w)
      = (m ((c : Thread nD τ).loc main_arg0) : S1x96x224x224.Idx → EReal) (ix4 0 f h w) := by
  entry_read
  pointwise

/-- The kernel's value operand is the value array with the breakpoint axis first. -/
theorem entry_val (c : Dev nD) (k : Fin 3) (o f : Fin 96) :
    (V m c main_v4 : S3x96x96.Idx → EReal) (ix3 k o f)
      = (m ((c : Thread nD τ).loc main_arg2) : S96x96x1x1x3.Idx → EReal) (ix5 o f 0 0 k) := by
  entry_read
  pointwise

/-- The array of the formula's values, from the kernel's arguments. -/
def mixedArr (x : S1x96x224x224.Idx → EReal) (p v : S96x96x1x1x3.Idx → EReal) : S96x224x224.Idx → EReal :=
  fun i => Cert.Spline.mixed (fun k => p (ix5 0 0 0 0 k)) (fun f => x (ix4 0 f (i 1) (i 2)))
    (fun k f => v (ix5 (i 0) f 0 0 k))

/-- After the run the result array holds the formula's values of the arguments. -/
theorem arr_args (c : Dev nD) : (dats m 0 c).arrAt 3 cfg0.N
    = mixedArr (m ((c : Thread nD τ).loc main_arg0)) (m ((c : Thread nD τ).loc main_arg1))
        (m ((c : Thread nD τ).loc main_arg2)) := by
  rw [arr_eq]
  funext i
  unfold whole mixedArr
  refine congr (congr (congrArg Cert.Spline.mixed ?_) ?_) ?_
  · exact funext fun k => entry_pos m c k
  · exact funext fun f => entry_x m c f (i 1) (i 2)
  · exact funext fun k => funext fun f => entry_val m c k (i 0) f

end Cert.KernelIdeal.Spline
-- ==== Proof.Spline.Lookup.lean ====
/- The reference's two indexing steps read at one place: a table looked up at three indices, and the segment an input
   lies in. -/
module

public import proofs.«01_k».proof.Defs
public import proofs.«01_k».proof.Proof.Gen.ReferenceIdeal
public import Idealize.ShloMosaic.Lib.Pointwise
public import Idealize.ShloMosaic.Lib.StableHlo.Predicate

@[expose] public section

set_option maxRecDepth 16384

noncomputable section

namespace Cert.ReferenceIdeal.Spline

open Cert.ReferenceIdeal Cert.ReferenceIdeal.Gen Idealize.ShloMosaic Idealize.ShloMosaic.TcCoe
open Idealize.ShloMosaic.StableHlo.Predicate (toInt_ofNat_small)

/-- The table lookup at place `(o, f, h, w)` reads the table at the three index words stored for that place, each
    taken as a signed number and held inside the table. -/
theorem gather_at (x : S96x96x3.Idx → EReal) (idx : IVec S96x96x224x224x3 32) (o f : Fin 96) (h w : Fin 224) :
    Host.gather gather_S96x96x3_S96x96x224x224x3_S96x96x224x224_n_012_n_n_012_4_111 x idx (ix4 o f h w)
      = x (ix3 ⟨min (idx (ix5 o f h w 0)).toInt.toNat 95, by omega⟩ ⟨min (idx (ix5 o f h w 1)).toInt.toNat 95, by omega⟩
          ⟨min (idx (ix5 o f h w 2)).toInt.toNat 2, by omega⟩) := by
  set d := gather_S96x96x3_S96x96x224x224x3_S96x96x224x224_n_012_n_n_012_4_111 with hd
  unfold Host.gather
  congr 1
  funext a
  refine Fin.ext ?_
  show d.start (ix4 o f h w) idx a + d.batchCoord (ix4 o f h w) a + d.offCoord (ix4 o f h w) a = _
  have ha : a ∈ ([0, 1, 2] : List (Fin 3)) := by
    match a with
    | ⟨0, _⟩ => exact List.mem_cons_self
    | ⟨1, _⟩ => exact List.mem_cons_of_mem _ List.mem_cons_self
    | ⟨2, _⟩ => exact List.mem_cons_of_mem _ (List.mem_cons_of_mem _ List.mem_cons_self)
  rw [GatherDims.batchCoord_eq_zero _ _ _ (List.not_mem_nil : a ∉ ([] : List (Fin 3))),
    GatherDims.offCoord_eq_zero _ _ _ (fun h => ((GatherDims.mem_sKept _ _).mp h).1 ha)]
  simp only [Nat.add_zero]
  unfold GatherDims.start
  rw [dif_pos (show a ∈ d.startIndexMap from ha)]
  have hsi : d.siIdx (ix4 o f h w) ⟨List.idxOf a d.startIndexMap, List.idxOf_lt_length_iff.2 ha⟩ = ix5 o f h w a := by
    funext b; refine Fin.ext ?_
    match a, b with
    | ⟨0, _⟩, ⟨0, _⟩ => rfl
    | ⟨0, _⟩, ⟨1, _⟩ => rfl
    | ⟨0, _⟩, ⟨2, _⟩ => rfl
    | ⟨0, _⟩, ⟨3, _⟩ => rfl
    | ⟨0, _⟩, ⟨4, _⟩ => rfl
    | ⟨1, _⟩, ⟨0, _⟩ => rfl
    | ⟨1, _⟩, ⟨1, _⟩ => rfl
    | ⟨1, _⟩, ⟨2, _⟩ => rfl
    | ⟨1, _⟩, ⟨3, _⟩ => rfl
    | ⟨1, _⟩, ⟨4, _⟩ => rfl
    | ⟨2, _⟩, ⟨0, _⟩ => rfl
    | ⟨2, _⟩, ⟨1, _⟩ => rfl
    | ⟨2, _⟩, ⟨2, _⟩ => rfl
    | ⟨2, _⟩, ⟨3, _⟩ => rfl
    | ⟨2, _⟩, ⟨4, _⟩ => rfl
  rw [hsi]
  match a with
  | ⟨0, _⟩ => rfl
  | ⟨1, _⟩ => rfl
  | ⟨2, _⟩ => rfl

/-- A small number stored as an index word, sent through the "negative means from the end" wrap and held inside the
    table, is that number. -/
theorem wrap_small (N k : ℕ) (hk : k ≤ N) (hN : N < 2 ^ 31) (c : BitVec 32) :
    min (Scalar.select (IntOp.cmpi .slt (BitVec.ofNat 32 k) 0#32) (IntOp.addi (BitVec.ofNat 32 k) c)
      (BitVec.ofNat 32 k)).toInt.toNat N = k := by
  have hi : (BitVec.ofNat 32 k).toInt = k := toInt_ofNat_small k (by omega)
  have hs : IntOp.cmpi .slt (BitVec.ofNat 32 k) 0#32 = 0#1 := by
    show BitVec.ofBool (BitVec.slt _ _) = _
    have : BitVec.slt (BitVec.ofNat 32 k) 0#32 = false := by
      unfold BitVec.slt
      rw [hi]
      simp
    rw [this]
    rfl
  have hsel : Scalar.select (IntOp.cmpi .slt (BitVec.ofNat 32 k) 0#32) (IntOp.addi (BitVec.ofNat 32 k) c)
      (BitVec.ofNat 32 k) = BitVec.ofNat 32 k := by
    rw [hs]
    rfl
  rw [hsel, hi]
  omega

/-- The segment word: of three increasing breakpoints an input has reached, one less than their number, held between
    0 and 1, is 1 when the middle breakpoint is reached and 0 when it is not. -/
theorem segment_word (b : Fin 3 → Prop) [∀ k, Decidable (b k)] (h10 : b 1 → b 0) (h21 : b 2 → b 1) :
    IntOp.minsi 1#32 (IntOp.maxsi 0#32 (IntOp.subi
      (Finset.fold IntOp.addi 0#32 (fun k => BitVec.setWidth 32 (BitVec.ofBool (decide (b k)))) Finset.univ) 1#32))
      = BitVec.ofNat 32 (if b 1 then 1 else 0) := by
  rw [show (Finset.univ : Finset (Fin 3)) = insert 0 (insert 1 (insert 2 ∅)) from rfl,
    Finset.fold_insert (by decide), Finset.fold_insert (by decide), Finset.fold_insert (by decide), Finset.fold_empty]
  by_cases h0 : b 0 <;> by_cases h1 : b 1 <;> by_cases h2 : b 2 <;> simp only [h0, h1, h2, decide_true, decide_false, if_true, if_false] <;>
    first
    | exact absurd (h10 h1) h0
    | exact absurd (h21 h2) h1
    | rfl

end Cert.ReferenceIdeal.Spline
-- ==== Proof.Spline.RefArray.lean ====
/- The reference's result array, element by element: the sum over the input channels of the interpolated value. -/
module

public import proofs.«01_k».proof.Defs
public import proofs.«01_k».proof.Proof.Gen.ReferenceIdeal.Run
public import proofs.«01_k».proof.Proof.Spline.Lookup
public import proofs.«01_k».proof.Proof.Spline.Formula
public import Idealize.ShloMosaic.Lib.Pointwise

@[expose] public section

set_option maxRecDepth 16384

noncomputable section

namespace Cert.ReferenceIdeal.Spline

open Cert.ReferenceIdeal Cert.ReferenceIdeal.Gen Cert.ReferenceIdeal.Value
open Idealize.ShloMosaic Idealize.ShloMosaic.TcCoe Idealize.ShloMosaic.StableHlo Idealize.SL.Sem
open Cert.Spline (clip lo hi pwl)

variable (V0 : Valuation τ sig (Elt Ideal))

/-- The input array as the reference finds it. -/
abbrev xin : S1x96x224x224.Idx → EReal := V0 (Proc.devRef .tc main_arg0)
/-- The breakpoints of one channel pair as the reference finds them. -/
abbrev pin (o f : Fin 96) : Fin 3 → EReal := fun k => (V0 (Proc.devRef .tc main_arg1) : S96x96x1x1x3.Idx → EReal) (ix5 o f 0 0 k)
/-- The values of one channel pair as the reference finds them. -/
abbrev vin (o f : Fin 96) : Fin 3 → EReal := fun k => (V0 (Proc.devRef .tc main_arg2) : S96x96x1x1x3.Idx → EReal) (ix5 o f 0 0 k)
/-- The clipped input at one place. -/
abbrev cin (f : Fin 96) (h w : Fin 224) : EReal := clip (xin V0 (ix4 0 f h w))

/-- The clipped input, read at one place. -/
theorem xc_at (f : Fin 96) (h w : Fin 224) : (res_main_v1 V0 (ix3 f h w) : EReal) = cin V0 f h w := by
  unfold res_main_v1 cin clip
  pointwise
  simp only [id_eq]
  pointwise
  rw [Cert.Spline.bits_neg_one]

/-- The breakpoints without their two unit axes. -/
theorem pos_at (o f : Fin 96) (k : Fin 3) : (res_main_v2 V0 (ix3 o f k) : EReal) = pin V0 o f k := by
  unfold res_main_v2
  pointwise

/-- The values without their two unit axes. -/
theorem val_at (o f : Fin 96) (k : Fin 3) : (res_main_v3 V0 (ix3 o f k) : EReal) = vin V0 o f k := by
  unfold res_main_v3
  pointwise

/-- The output channel's own number. -/
theorem out_at (o : Fin 96) : res_main_v5 V0 (ix4 o 0 0 0) = BitVec.ofNat 32 o := by
  unfold res_main_v5
  pointwise

/-- The input channel's own number. -/
theorem in_at (f : Fin 96) : res_main_v7 V0 (ix4 0 f 0 0) = BitVec.ofNat 32 f := by
  unfold res_main_v7
  pointwise

/-- The breakpoints of every channel pair stand in order. -/
def Ordered : Prop := ∀ o f : Fin 96, pin V0 o f 0 ≤ pin V0 o f 1 ∧ pin V0 o f 1 ≤ pin V0 o f 2

/-- The reference's segment word is the number of the segment's left end. -/
theorem seg_at (hp : Ordered V0) (o f : Fin 96) (h w : Fin 224) :
    res_main_v17 V0 (ix4 o f h w) = BitVec.ofNat 32 (lo (pin V0 o f) (cin V0 f h w)) := by
  unfold res_main_v17
  pointwise
  simp only [pos_at, xc_at]
  refine (segment_word (fun k => pin V0 o f k ≤ cin V0 f h w)
    (fun e => (hp o f).1.trans e) (fun e => (hp o f).2.trans e)).trans ?_
  unfold lo
  split <;> rfl

/-- The word one past it is the number of the segment's right end. -/
theorem next_at (hp : Ordered V0) (o f : Fin 96) (h w : Fin 224) :
    res_main_v41 V0 (ix4 o f h w) = BitVec.ofNat 32 (hi (pin V0 o f) (cin V0 f h w)) := by
  unfold res_main_v41
  pointwise
  rw [seg_at V0 hp]
  unfold lo hi
  split <;> rfl

/-- The same word, as the values' lookup computes it. -/
theorem next_at' (hp : Ordered V0) (o f : Fin 96) (h w : Fin 224) :
    res_main_v87 V0 (ix4 o f h w) = BitVec.ofNat 32 (hi (pin V0 o f) (cin V0 f h w)) :=
  next_at V0 hp o f h w

/-- Three small index words, wrapped and held inside the table, are the place they name. -/
theorem place_eq (o f : Fin 96) (k : Fin 3) (a b c : BitVec 32) (ha : a = BitVec.ofNat 32 o)
    (hb : b = BitVec.ofNat 32 f) (hc : c = BitVec.ofNat 32 k) (x y z : ℕ) (hx : x < 96) (hy : y < 96) (hz : z < 3)
    (ex : x = min (Scalar.select (IntOp.cmpi .slt a 0#32) (IntOp.addi a 96#32) a).toInt.toNat 95)
    (ey : y = min (Scalar.select (IntOp.cmpi .slt b 0#32) (IntOp.addi b 96#32) b).toInt.toNat 95)
    (ez : z = min (Scalar.select (IntOp.cmpi .slt c 0#32) (IntOp.addi c 3#32) c).toInt.toNat 2) :
    (ix3 ⟨x, hx⟩ ⟨y, hy⟩ ⟨z, hz⟩ : S96x96x3.Idx) = ix3 o f k := by
  subst ha hb hc
  rw [wrap_small 95 o (by omega) (by norm_num)] at ex
  rw [wrap_small 95 f (by omega) (by norm_num)] at ey
  rw [wrap_small 2 k (by omega) (by norm_num)] at ez
  subst ex ey ez
  rfl

/-- The left breakpoint looked up. -/
theorem lp_at (hp : Ordered V0) (o f : Fin 96) (h w : Fin 224) :
    (res_main_v39 V0 (ix4 o f h w) : EReal) = pin V0 o f (lo (pin V0 o f) (cin V0 f h w)) := by
  unfold res_main_v39
  rw [gather_at, ← pos_at]
  refine congrArg (res_main_v2 V0) (place_eq _ _ _ _ _ _ (out_at V0 o) (in_at V0 f) (seg_at V0 hp o f h w) _ _ _ _ _ _ ?_ ?_ ?_) <;>
    pointwise

/-- The right breakpoint looked up. -/
theorem rp_at (hp : Ordered V0) (o f : Fin 96) (h w : Fin 224) :
    (res_main_v63 V0 (ix4 o f h w) : EReal) = pin V0 o f (hi (pin V0 o f) (cin V0 f h w)) := by
  unfold res_main_v63
  rw [gather_at, ← pos_at]
  refine congrArg (res_main_v2 V0) (place_eq _ _ _ _ _ _ (out_at V0 o) (in_at V0 f) (next_at V0 hp o f h w) _ _ _ _ _ _ ?_ ?_ ?_) <;>
    pointwise

/-- The left breakpoint's value looked up. -/
theorem lv_at (hp : Ordered V0) (o f : Fin 96) (h w : Fin 224) :
    (res_main_v85 V0 (ix4 o f h w) : EReal) = vin V0 o f (lo (pin V0 o f) (cin V0 f h w)) := by
  unfold res_main_v85
  rw [gather_at, ← val_at]
  refine congrArg (res_main_v3 V0) (place_eq _ _ _ _ _ _ (out_at V0 o) (in_at V0 f) (seg_at V0 hp o f h w) _ _ _ _ _ _ ?_ ?_ ?_) <;>
    pointwise

/-- The reference's two overrides and its interpolation, written with the ends already looked up, are the
    piecewise linear function. -/
theorem pwl_eq {p v : Fin 3 → EReal} {c p0 p2 v0 v2 x lp rp lv rv one : EReal} (ex : x = c) (e0 : p0 = p 0) (e2 : p2 = p 2)
    (f0 : v0 = v 0) (f2 : v2 = v 2) (elp : lp = p (lo p c)) (erp : rp = p (hi p c)) (elv : lv = v (lo p c))
    (erv : rv = v (hi p c)) :
    (if p2 ≤ x then v2 else if x ≤ p0 then v0 else if rp = lp then lv
      else lv + Ideal.div (x - lp) (if rp = lp then one else rp - lp) * (rv - lv)) = pwl p v c := by
  subst ex e0 e2 f0 f2 elp erp elv erv
  unfold pwl
  split
  · rfl
  · split
    · rfl
    · split <;> rfl

/-- The array of the reference's sums, from the arguments. -/
def total : S96x224x224.Idx → EReal :=
  fun i => ∑ f, pwl (pin V0 (i 0) f) (vin V0 (i 0) f) (cin V0 f (i 1) (i 2))

/-- Every run of the reference ends with the sums in its result array and the arguments unchanged. -/
theorem run_total (m : (ℓ : Loc nD τ sig) → Buf (Elt Ideal) ℓ) (ρ : Dev nD → PrngReg)
    (hp : ∀ c, Ordered (launchContents m c)) :
    θ_run defs (onTc (τ := τ) (main (F := Ideal))) ⟨m, fun _ => 0, ρ⟩ fun r => ∀ c : Dev nD,
      r.2.mem ((c.tc : Thread nD τ).loc main_v144) = total (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  have hp := hp c
  generalize launchContents m c = V0 at hp ⊢
  funext j
  idx_vars j
  unfold total
  pointwise
  refine Finset.sum_congr rfl fun f _ => pwl_eq (xc_at V0 f j1 j2) (pos_at V0 j0 f 0) (pos_at V0 j0 f 2)
    (val_at V0 j0 f 0) (val_at V0 j0 f 2) (lp_at V0 hp j0 f j1 j2) (rp_at V0 hp j0 f j1 j2) (lv_at V0 hp j0 f j1 j2) ?_
  rw [gather_at]
  refine Eq.trans (congrArg (res_main_v3 V0) (place_eq _ _ _ _ _ _ (out_at V0 j0) (in_at V0 f) (next_at' V0 hp j0 f j1 j2) _ _ _ _ _ _ ?_ ?_ ?_))
    (val_at V0 _ _ _) <;>
    pointwise

end Cert.ReferenceIdeal.Spline
-- ==== Proof.Spline.Pre.lean ====
/- What the precondition says of the three argument arrays. -/
module

public import proofs.«01_k».proof.Defs
public import proofs.«01_k».proof.Proof.Gen.Pre_shared_increasing_positions
public import proofs.«01_k».proof.Proof.Spline.Formula
public import Idealize.ShloMosaic.Lib.Pointwise
public import Idealize.ShloMosaic.Lib.ReduceAll

@[expose] public section

set_option maxRecDepth 16384

noncomputable section

namespace Cert.Pre_shared_increasing_positions.Spline

open Cert.Pre_shared_increasing_positions Cert.Pre_shared_increasing_positions.Gen Idealize.ShloMosaic

/-- A conjunction over a set of places that came out true is true at each of them. -/
theorem all_of_fold {ι : Type} (g : ι → BitVec 1) (S : Finset ι) (h : S.fold IntOp.andi 1#1 g = 1#1) :
    ∀ i ∈ S, g i = 1#1 := by
  classical
  induction S using Finset.cons_induction with
  | empty => exact fun i hi => absurd hi (Finset.notMem_empty i)
  | cons a S ha ih =>
    rw [Finset.fold_cons] at h
    obtain ⟨h1, h2⟩ := IntOp.andi_eq_one.1 h
    intro i hi
    rcases Finset.mem_cons.1 hi with rfl | hi
    · exact h1
    · exact ih h2 i hi

/-- A stored truth value that reads 1 is the truth of its statement. -/
theorem of_bit {a : Prop} [Decidable a] (h : BitVec.ofBool (decide a) = 1#1) : a := by
  by_contra hn
  rw [decide_eq_false hn] at h
  exact absurd h (by decide)

/-- Where the precondition holds, every channel pair has the first pair's breakpoints, the breakpoints increase
    strictly inside [-1, 1], and no value is infinite. -/
theorem decode (x : S1x96x224x224.Idx → EReal) (p v : S96x96x1x1x3.Idx → EReal)
    (h : fn (F := Ideal) x p v = fun _ => 1#1) :
    (∀ (o f : Fin 96) (k : Fin 3), p (ix5 o f 0 0 k) = p (ix5 0 0 0 0 k))
    ∧ -1 ≤ p (ix5 0 0 0 0 0) ∧ p (ix5 0 0 0 0 0) < p (ix5 0 0 0 0 1) ∧ p (ix5 0 0 0 0 1) < p (ix5 0 0 0 0 2)
    ∧ p (ix5 0 0 0 0 2) ≤ 1 ∧ ∀ i, max (v i) (-v i) < ⊤ := by
  have h := congrFun h ix0
  unfold fn fn_part1 at h
  pointwise at h
  obtain ⟨h, hv⟩ := IntOp.andi_eq_one.1 h
  obtain ⟨hs, h⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  have h0 := of_bit h0
  rw [Cert.Spline.bits_neg_one] at h0
  refine ⟨fun o f k => ?_, h0, of_bit h1, of_bit h2, of_bit h3, fun i => ?_⟩
  · exact of_bit (all_of_fold _ _ hs (ix5 o f 0 0 k) (Finset.mem_filter.2 ⟨Finset.mem_univ _, funext fun a => a.elim0⟩))
  · have e := of_bit (all_of_fold _ _ hv i (Finset.mem_filter.2 ⟨Finset.mem_univ _, funext fun a => a.elim0⟩))
    rw [Cert.Spline.bits_inf] at e
    exact e

/-- An array none of whose entries is infinite holds real numbers. -/
theorem reals {ι : Type} (v : ι → EReal) (h : ∀ i, max (v i) (-v i) < ⊤) : ∃ r : ι → ℝ, ∀ i, v i = (r i : EReal) := by
  refine ⟨fun i => (v i).toReal, fun i => (EReal.coe_toReal ?_ ?_).symm⟩
  · rintro e
    have := h i
    rw [e] at this
    simp at this
  · rintro e
    have := h i
    rw [e] at this
    simp at this

end Cert.Pre_shared_increasing_positions.Spline
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_shared_increasing_positions
public import proofs.«01_k».proof.Proof.Spline.Element
public import proofs.«01_k».proof.Proof.Spline.KernelArray
public import proofs.«01_k».proof.Proof.Spline.RefArray
public import proofs.«01_k».proof.Proof.Spline.Pre
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments alone and ends with every semaphore at zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m g)

/-- On one device, where the precondition holds of the arguments: the breakpoints the reference finds stand in order,
    and its sums are the kernel's array. -/
theorem total_eq (V0 : Valuation Cert.ReferenceIdeal.τ Cert.ReferenceIdeal.sig (Elt Ideal))
    (x : Cert.ReferenceIdeal.S1x96x224x224.Idx → EReal) (p v : Cert.ReferenceIdeal.S96x96x1x1x3.Idx → EReal)
    (ex : V0 (Proc.devRef .tc Cert.ReferenceIdeal.main_arg0) = x)
    (ep : V0 (Proc.devRef .tc Cert.ReferenceIdeal.main_arg1) = p)
    (ev : V0 (Proc.devRef .tc Cert.ReferenceIdeal.main_arg2) = v)
    (h : Cert.Pre_shared_increasing_positions.fn (F := Ideal) x p v = fun _ => 1#1) :
    Cert.ReferenceIdeal.Spline.Ordered V0
      ∧ Cert.ReferenceIdeal.Spline.total V0 = Cert.KernelIdeal.Spline.mixedArr x p v := by
  obtain ⟨hs, h0, h01, h12, h2, hv⟩ := Cert.Pre_shared_increasing_positions.Spline.decode x p v h
  have ep' : ∀ o f, Cert.ReferenceIdeal.Spline.pin V0 o f = fun k => p (ix5 0 0 0 0 k) := fun o f => funext fun k => by
    show (V0 (Proc.devRef .tc Cert.ReferenceIdeal.main_arg1) : Cert.ReferenceIdeal.S96x96x1x1x3.Idx → EReal) _ = _
    rw [ep]
    exact hs o f k
  refine ⟨fun o f => ?_, ?_⟩
  · rw [ep']
    exact ⟨h01.le, h12.le⟩
  · obtain ⟨r, hr⟩ := Cert.Pre_shared_increasing_positions.Spline.reals v hv
    have hq : ∀ k : Fin 3, -1 ≤ p (ix5 0 0 0 0 k) ∧ p (ix5 0 0 0 0 k) ≤ 1 := fun k => by
      match k with
      | ⟨0, _⟩ => exact ⟨h0, (h01.trans h12).le.trans h2⟩
      | ⟨1, _⟩ => exact ⟨h0.trans h01.le, h12.le.trans h2⟩
      | ⟨2, _⟩ => exact ⟨h0.trans (h01.trans h12).le, h2⟩
    obtain ⟨q, hp⟩ : ∃ q : Fin 3 → ℝ, ∀ k, p (ix5 0 0 0 0 k) = (q k : EReal) :=
      ⟨fun k => (p (ix5 0 0 0 0 k)).toReal, fun k => (EReal.coe_toReal
        (fun e => absurd ((hq k).2) (by rw [e, ← EReal.coe_one]; exact not_le.2 (EReal.coe_lt_top 1)))
        (fun e => absurd ((hq k).1) (by rw [e, show (-1 : EReal) = ((-1 : ℝ) : EReal) by norm_num]; exact not_le.2 (EReal.bot_lt_coe _)))).symm⟩
    rw [hp, show (-1 : EReal) = ((-1 : ℝ) : EReal) by norm_num, EReal.coe_le_coe_iff] at h0
    rw [hp, hp, EReal.coe_lt_coe_iff] at h01 h12
    rw [hp, ← EReal.coe_one, EReal.coe_le_coe_iff] at h2
    funext i
    unfold Cert.ReferenceIdeal.Spline.total Cert.KernelIdeal.Spline.mixedArr
    have ev' : ∀ o f, Cert.ReferenceIdeal.Spline.vin V0 o f = fun k => (r (ix5 o f 0 0 k) : EReal) := fun o f => funext fun k => by
      show (V0 (Proc.devRef .tc Cert.ReferenceIdeal.main_arg2) : Cert.ReferenceIdeal.S96x96x1x1x3.Idx → EReal) _ = _
      rw [ev]
      exact hr _
    have ep'' : ∀ o f, Cert.ReferenceIdeal.Spline.pin V0 o f = fun k => (q k : EReal) := fun o f =>
      (ep' o f).trans (funext hp)
    simp only [hr, hp]
    exact Eq.trans (Finset.sum_congr rfl fun f _ => congr (congr (congrArg Cert.Spline.pwl (ep'' (i 0) f)) (ev' (i 0) f))
        (congrArg Cert.Spline.clip (congrFun ex (ix4 0 f (i 1) (i 2)))))
      (Cert.Spline.sum_pwl q (fun k f => r (ix5 (i 0) f 0 0 k)) h0 h01 h12 h2 (fun f => x (ix4 0 f (i 1) (i 2))))

/-- Where the precondition holds, the kernel's ideal form and the reference end with the same array. -/
theorem algebraic : Cert.algebraic_KernelIdeal_ReferenceIdeal_pre_shared_increasing_positions := by
  intro m g m' g' hpre hagree
  have key := fun c : Dev Cert.KernelIdeal.nD => total_eq (StableHlo.launchContents m' c)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (hagree c).1 (hagree c).2.1 (hagree c).2.2 (hpre c)
  refine ⟨fun c => Cert.KernelIdeal.Spline.mixedArr
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  rotate_left
  · exact (θ_run Cert.ReferenceIdeal.defs _ _).mono (fun r h c => ⟨(h c).1.trans (key c).2, (h c).2⟩)
      (Cert.ReferenceIdeal.Spline.run_total m' g' fun c => (key c).1)
  · exact (θ_run Cert.KernelIdeal.defs _ _).mono
      (fun r h c => ⟨(h c).1.trans (Cert.KernelIdeal.Spline.arr_args m c), (h c).2⟩)
      (Cert.KernelIdeal.Value.run_blocks (F := Ideal) m g)

/-- All the claims together, with the witnesses of the programs' stated facts. -/
theorem claim : Cert.Claim := ⟨Cert.Kernel.Gen.facts, Cert.KernelIdeal.Gen.facts, Cert.ReferenceIdeal.Gen.facts,
  Cert.Pre_shared_increasing_positions.Gen.facts,
  fun m g _ => Cert.Kernel.Gen.frame m g,
  fun m g _ => Cert.KernelIdeal.Gen.frame m g,
  fun m g _ => Cert.KernelIdeal.Gen.frame m g,
  fun m g _ => ref_frame m g,
  fun m g _ => ref_frame m g,
  trivial,
  algebraic⟩

end Cert.Proof

end
